-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1024x18944 : Shape := ⟨3, ![12, 1024, 18944]⟩
abbrev S1792x18944 : Shape := ⟨2, ![1792, 18944]⟩
abbrev S18944 : Shape := ⟨1, ![18944]⟩
abbrev S1x18944 : Shape := ⟨2, ![1, 18944]⟩
abbrev S3584x18944 : Shape := ⟨2, ![3584, 18944]⟩
abbrev S1792x256 : Shape := ⟨2, ![1792, 256]⟩
abbrev S1x256 : Shape := ⟨2, ![1, 256]⟩
abbrev S3584x256 : Shape := ⟨2, ![3584, 256]⟩
abbrev S2x2016x128 : Shape := ⟨3, ![2, 2016, 128]⟩
abbrev S32x256 : Shape := ⟨2, ![32, 256]⟩
abbrev S32x128 : Shape := ⟨2, ![32, 128]⟩
abbrev S1x32x128 : Shape := ⟨3, ![1, 32, 128]⟩
abbrev S1x2016x128 : Shape := ⟨3, ![1, 2016, 128]⟩
abbrev S2016x128 : Shape := ⟨2, ![2016, 128]⟩
abbrev S56x128 : Shape := ⟨2, ![56, 128]⟩
abbrev S112x128 : Shape := ⟨2, ![112, 128]⟩
abbrev S12288x18944 : Shape := ⟨2, ![12288, 18944]⟩
abbrev S3584x12288 : Shape := ⟨2, ![3584, 12288]⟩
abbrev S3584x512 : Shape := ⟨2, ![3584, 512]⟩
abbrev S1024x512 : Shape := ⟨2, ![1024, 512]⟩
abbrev S3584x1024 : Shape := ⟨2, ![3584, 1024]⟩

abbrev nBuf : Space → Nat
  | .hbm => 7
  | .vmem => 14
  | .smem => 0
  | _ => 0

abbrev bufTy : (tb : Table) → Fin (tcTables nBuf tb) → BufTy
  | .hbm, ⟨0, _⟩ => ⟨S12x1024x18944, .bf16⟩
  | .hbm, ⟨1, _⟩ => ⟨S1792x18944, .i8⟩
  | .hbm, ⟨2, _⟩ => ⟨S18944, .f32⟩
  | .hbm, ⟨3, _⟩ => ⟨S1x18944, .f32⟩
  | .hbm, ⟨4, _⟩ => ⟨S3584x18944, .bf16⟩
  | .hbm, ⟨5, _⟩ => ⟨S12288x18944, .bf16⟩
  | .hbm, ⟨6, _⟩ => ⟨S3584x12288, .f32⟩
  | .local _ .vmem, ⟨0, _⟩ => ⟨S1792x256, .i8⟩
  | .local _ .vmem, ⟨1, _⟩ => ⟨S1792x256, .i8⟩
  | .local _ .vmem, ⟨2, _⟩ => ⟨S1x256, .f32⟩
  | .local _ .vmem, ⟨3, _⟩ => ⟨S1x256, .f32⟩
  | .local _ .vmem, ⟨4, _⟩ => ⟨S3584x256, .bf16⟩
  | .local _ .vmem, ⟨5, _⟩ => ⟨S3584x256, .bf16⟩
  | .local _ .vmem, ⟨6, _⟩ => ⟨S2x2016x128, .f32⟩
  | .local _ .vmem, ⟨7, _⟩ => ⟨S2x2016x128, .f32⟩
  | .local _ .vmem, ⟨8, _⟩ => ⟨S3584x512, .bf16⟩
  | .local _ .vmem, ⟨9, _⟩ => ⟨S3584x512, .bf16⟩
  | .local _ .vmem, ⟨10, _⟩ => ⟨S1024x512, .bf16⟩
  | .local _ .vmem, ⟨11, _⟩ => ⟨S1024x512, .bf16⟩
  | .local _ .vmem, ⟨12, _⟩ => ⟨S3584x1024, .f32⟩
  | .local _ .vmem, ⟨13, _⟩ => ⟨S3584x1024, .f32⟩
  | _, _ => ⟨S12x1024x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1792x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3584x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![12, 37], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S3584x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S3584x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== ReferenceIdeal.lean ====
abbrev S12x1024x18944 : Shape := ⟨3, ![12, 1024, 18944]⟩
abbrev S1792x18944 : Shape := ⟨2, ![1792, 18944]⟩
abbrev S18944 : Shape := ⟨1, ![18944]⟩
abbrev S_ : Shape := ⟨0, ![]⟩
abbrev S1x18944 : Shape := ⟨2, ![1, 18944]⟩
abbrev S12x1024x1792 : Shape := ⟨3, ![12, 1024, 1792]⟩
abbrev S12x1024x1792x1 : Shape := ⟨4, ![12, 1024, 1792, 1]⟩
abbrev S12x1024x1792x2 : Shape := ⟨4, ![12, 1024, 1792, 2]⟩
abbrev S12x1024x3584 : Shape := ⟨3, ![12, 1024, 3584]⟩
abbrev S12288x56x64 : Shape := ⟨3, ![12288, 56, 64]⟩
abbrev S64x56x12288 : Shape := ⟨3, ![64, 56, 12288]⟩
abbrev S3584x12288 : Shape := ⟨2, ![3584, 12288]⟩

abbrev nBuf : Space → Nat
  | .hbm => 42
  | .vmem => 0
  | .smem => 0
  | _ => 0

abbrev bufTy : (tb : Table) → Fin (tcTables nBuf tb) → BufTy
  | .hbm, ⟨0, _⟩ => ⟨S12x1024x18944, .bf16⟩
  | .hbm, ⟨1, _⟩ => ⟨S1792x18944, .i8⟩
  | .hbm, ⟨2, _⟩ => ⟨S18944, .f32⟩
  | .hbm, ⟨3, _⟩ => ⟨S1792x18944, .i32⟩
  | .hbm, ⟨4, _⟩ => ⟨S18944, .bf16⟩
  | .hbm, ⟨5, _⟩ => ⟨S_, .i32⟩
  | .hbm, ⟨6, _⟩ => ⟨S1792x18944, .i32⟩
  | .hbm, ⟨7, _⟩ => ⟨S1792x18944, .i32⟩
  | .hbm, ⟨8, _⟩ => ⟨S_, .i32⟩
  | .hbm, ⟨9, _⟩ => ⟨S1792x18944, .i32⟩
  | .hbm, ⟨10, _⟩ => ⟨S1792x18944, .i1⟩
  | .hbm, ⟨11, _⟩ => ⟨S_, .i32⟩
  | .hbm, ⟨12, _⟩ => ⟨S1792x18944, .i32⟩
  | .hbm, ⟨13, _⟩ => ⟨S1792x18944, .i32⟩
  | .hbm, ⟨14, _⟩ => ⟨S1792x18944, .i32⟩
  | .hbm, ⟨15, _⟩ => ⟨S1792x18944, .bf16⟩
  | .hbm, ⟨16, _⟩ => ⟨S1x18944, .bf16⟩
  | .hbm, ⟨17, _⟩ => ⟨S1792x18944, .bf16⟩
  | .hbm, ⟨18, _⟩ => ⟨S1792x18944, .bf16⟩
  | .hbm, ⟨19, _⟩ => ⟨S_, .i32⟩
  | .hbm, ⟨20, _⟩ => ⟨S1792x18944, .i32⟩
  | .hbm, ⟨21, _⟩ => ⟨S1792x18944, .i32⟩
  | .hbm, ⟨22, _⟩ => ⟨S_, .i32⟩
  | .hbm, ⟨23, _⟩ => ⟨S1792x18944, .i32⟩
  | .hbm, ⟨24, _⟩ => ⟨S1792x18944, .i1⟩
  | .hbm, ⟨25, _⟩ => ⟨S_, .i32⟩
  | .hbm, ⟨26, _⟩ => ⟨S1792x18944, .i32⟩
  | .hbm, ⟨27, _⟩ => ⟨S1792x18944, .i32⟩
  | .hbm, ⟨28, _⟩ => ⟨S1792x18944, .i32⟩
  | .hbm, ⟨29, _⟩ => ⟨S1792x18944, .bf16⟩
  | .hbm, ⟨30, _⟩ => ⟨S1x18944, .bf16⟩
  | .hbm, ⟨31, _⟩ => ⟨S1792x18944, .bf16⟩
  | .hbm, ⟨32, _⟩ => ⟨S1792x18944, .bf16⟩
  | .hbm, ⟨33, _⟩ => ⟨S12x1024x1792, .f32⟩
  | .hbm, ⟨34, _⟩ => ⟨S12x1024x1792, .f32⟩
  | .hbm, ⟨35, _⟩ => ⟨S12x1024x1792x1, .f32⟩
  | .hbm, ⟨36, _⟩ => ⟨S12x1024x1792x1, .f32⟩
  | .hbm, ⟨37, _⟩ => ⟨S12x1024x1792x2, .f32⟩
  | .hbm, ⟨38, _⟩ => ⟨S12x1024x3584, .f32⟩
  | .hbm, ⟨39, _⟩ => ⟨S12288x56x64, .f32⟩
  | .hbm, ⟨40, _⟩ => ⟨S64x56x12288, .f32⟩
  | .hbm, ⟨41, _⟩ => ⟨S3584x12288, .f32⟩
  | _, _ => ⟨S12x1024x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Proof.DecodeBlock.lean ====
/- What one block of the decode call computes: the four-bit codes of a block of 256 columns, unpacked, multiplied by their
   scales, and written with the rows in the permuted order the product uses. -/
module

public import proofs.«01_k».proof.Proof.Gen.KernelIdeal.Frame
public import Idealize.ShloMosaic.Lib.Pipeline.ReadBack
public import Idealize.ShloMosaic.Lib.ValueLayout

@[expose] public section

set_option maxRecDepth 16384

noncomputable section

namespace Cert.KernelIdeal.Decode

open Idealize.ShloMosaic Idealize.ShloMosaic.TcCoe Idealize.ShloMosaic.ValueIdx Cert.KernelIdeal.Gen

variable {F : FTy → Type} [FloatOps F]

/-! ## One weight -/

/-- One decoded weight: the code byte shifted left by `sh` (28 brings the low nibble to the top of the word, 24 the high one) and
    back by 28 with its sign, as a number, times the scale rounded to bf16. -/
def nib (sh : BitVec 32) (b : Elt F .i8) (s : Elt F .f32) : Elt F .f32 :=
  FloatOps.mulf (FloatOps.sitofp .f32 (IntOp.shrsi .vector (IntOp.shli .vector (BitVec.setWidth 32 b) sh) 28#32))
    (FloatOps.extf .f32 bitsLt_bf16_f32 (FloatOps.truncf .bf16 bitsLt_bf16_f32 s))

/-- The decoded weights of 32 rows of codes, as the body computes them before it stores them. -/
abbrev rows (sh : BitVec 32) (c : Vec F S32x256 .i8) (s : Vec F S1x256 .f32) : FVec F S32x256 .f32 :=
  mulf (sitofp .f32 (shrsi (shli (extui 32 c natLt_8_32) (broadcast S32x256 sh)) (broadcast S32x256 28#32)))
    (broadcastTo S32x256 (k0_pay2 s) broadcasts_S1x256_S32x256)

/-- One weight of those rows. -/
theorem rows_apply (sh : BitVec 32) (c : Vec F S32x256 .i8) (s : Vec F S1x256 .f32) (i : Fin 32) (j : Fin 256) :
    rows sh c s (ix2 i j) = nib sh (c (ix2 i j)) (s (ix2 (0 : Fin 1) j)) := by
  have hb : broadcastTo S32x256 (k0_pay2 s) broadcasts_S1x256_S32x256 (ix2 i j)
      = FloatOps.extf .f32 bitsLt_bf16_f32 (FloatOps.truncf .bf16 bitsLt_bf16_f32 (s (ix2 (0 : Fin 1) j))) := by
    refine (broadcastTo_1b_ab_apply (k0_pay2 s) _ i j).trans ?_
    show FloatOps.extf .f32 _ (FloatOps.truncf .bf16 _ (shapeCast S1x256 s _ _)) = _
    rw [shapeCast_apply s _ _ (ix2 (0 : Fin 1) j) rfl]
  show FloatOps.mulf _ (broadcastTo S32x256 (k0_pay2 s) broadcasts_S1x256_S32x256 (ix2 i j)) = _
  rw [hb]; rfl

/-! ## The scratch -/

/-- What the scratch holds where the body stored into it: at plane `p`, row `36 a + k` and lane `l` the weight of code row
    `32 a + k` and column `128 p + l`. -/
def scratch (sh : BitVec 32) (x0 : Vec F S1792x256 .i8) (x1 : Vec F S1x256 .f32) : Vec F S2x2016x128 .f32 := fun q =>
  have h0 : (q 0).val < 2 := (q 0).isLt
  have h2 : (q 2).val < 128 := (q 2).isLt
  nib sh (x0 (ix2 ⟨((q 1).val / 36 * 32 + (q 1).val % 36) % 1792, Nat.mod_lt _ (by decide)⟩ ⟨(q 0).val * 128 + (q 2).val, by omega⟩))
    (x1 (ix2 (0 : Fin 1) ⟨(q 0).val * 128 + (q 2).val, by omega⟩))

/-- Every store into the scratch puts there what `scratch` says. -/
theorem stored_agrees (sh : BitVec 32) {arg1 : Memref sig .tc .vmem S1792x256 .i8} (harg1 : arg1.IsWhole)
    {arg2 : Memref sig .tc .vmem S1x256 .f32} (harg2 : arg2.IsWhole) (x0 : Vec F S1792x256 .i8) (x1 : Vec F S1x256 .f32)
    (o0 o1 c0 r0 : ℕ) (inb : ∀ a, (![o0, o1, 0] : Fin 3 → ℕ) a + S1x32x128.size a ≤ S2x2016x128.size a)
    (inb1 : ∀ a, (![r0, 0] : Fin 2 → ℕ) a + S32x256.size a ≤ S1792x256.size a)
    (inb2 : ∀ a, (![0, 0] : Fin 2 → ℕ) a + S1x256.size a ≤ S1x256.size a)
    (hs : S32x256.Slices ![0, c0] S32x128) (hc : S32x128.ShapeCasts S1x32x128)
    (h1 : c0 = o0 * 128) (h2 : o1 % 36 = 0) (h3 : r0 = o1 / 36 * 32)
    (y : (Rect.unit (s := S2x2016x128) ![o0, o1, 0] S1x32x128.size inb).shape.Idx) :
    shapeCast S1x32x128 (extractStridedSlice S32x128 ![0, c0]
        (rows sh (arg1.view.readAt (Elt F) (Rect.unit (s := S1792x256) ![r0, 0] S32x256.size inb1).toLoadRect (harg1.unread x0))
          (arg2.view.readAt (Elt F) (Rect.unit (s := S1x256) ![0, 0] S1x256.size inb2).toLoadRect (harg2.unread x1))) hs) hc y
      = scratch sh x0 x1 ((Rect.unit (s := S2x2016x128) ![o0, o1, 0] S1x32x128.size inb).emb y) := by
  have b1 : o1 + 32 ≤ 2016 := inb 1
  have b0 : o0 + 1 ≤ 2 := inb 0
  have y0 : (y 0).val < 1 := (y 0).isLt
  have y1 : (y 1).val < 32 := (y 1).isLt
  have y2 : (y 2).val < 128 := (y 2).isLt
  refine (shapeCast_apply _ _ _ (ix2 (⟨(y 1).val, y1⟩ : Fin 32) (⟨(y 2).val, y2⟩ : Fin 128)) ?_).trans ?_
  · refine (Shape.rowMajor_val_two _).trans (Eq.trans ?_ (Shape.rowMajor_val_three _).symm)
    show (y 1).val * 128 + (y 2).val = ((y 0).val * 32 + (y 1).val) * 128 + (y 2).val
    omega
  refine (extractStridedSlice_apply _ _ _ _ (ix2 (⟨(y 1).val, y1⟩ : Fin 32) (⟨c0 + (y 2).val, by omega⟩ : Fin 256)) ?_).trans ?_
  · intro a
    match a with
    | ⟨0, _⟩ => exact (Nat.zero_add _).symm
    | ⟨1, _⟩ => rfl
  rw [rows_apply]
  unfold scratch
  have e0 : ((Rect.unit (s := S2x2016x128) ![o0, o1, 0] S1x32x128.size inb).emb y 0).val = o0 + 1 * (y 0).val := rfl
  have e1 : ((Rect.unit (s := S2x2016x128) ![o0, o1, 0] S1x32x128.size inb).emb y 1).val = o1 + 1 * (y 1).val := rfl
  have e2 : ((Rect.unit (s := S2x2016x128) ![o0, o1, 0] S1x32x128.size inb).emb y 2).val = 0 + 1 * (y 2).val := rfl
  congr 1
  · refine (congrFun (harg1.read_unread x0) _).trans (congrArg x0 (funext fun a => Fin.ext ?_))
    match a with
    | ⟨0, _⟩ =>
      show r0 + 1 * (y 1).val = (((Rect.unit (s := S2x2016x128) ![o0, o1, 0] S1x32x128.size inb).emb y 1).val / 36 * 32
        + ((Rect.unit (s := S2x2016x128) ![o0, o1, 0] S1x32x128.size inb).emb y 1).val % 36) % 1792
      rw [e1]; omega
    | ⟨1, _⟩ =>
      show 0 + 1 * (c0 + (y 2).val) = ((Rect.unit (s := S2x2016x128) ![o0, o1, 0] S1x32x128.size inb).emb y 0).val * 128
        + ((Rect.unit (s := S2x2016x128) ![o0, o1, 0] S1x32x128.size inb).emb y 2).val
      rw [e0, e2]; omega
  · refine (congrFun (harg2.read_unread x1) _).trans (congrArg x1 (funext fun a => Fin.ext ?_))
    match a with
    | ⟨0, _⟩ => rfl
    | ⟨1, _⟩ =>
      show 0 + 1 * (c0 + (y 2).val) = ((Rect.unit (s := S2x2016x128) ![o0, o1, 0] S1x32x128.size inb).emb y 0).val * 128
        + ((Rect.unit (s := S2x2016x128) ![o0, o1, 0] S1x32x128.size inb).emb y 2).val
      rw [e0, e2]; omega

/-! ## The strided loads -/

/-- A check on a list of stores into the scratch: of every group of 32 rows, in both planes, one store writes exactly that group. -/
def groups (L : List (View.Piece (Elt F) S2x2016x128 .f32)) : Bool :=
  (List.finRange 2).all fun p => (List.finRange 56).all fun a => L.any fun q =>
    Nat.beq (q.1.off 0) p.val && Nat.beq (q.1.off 1) (36 * a.val) && Nat.beq (q.1.off 2) 0 && Nat.beq (q.1.size 0) 1
      && Nat.beq (q.1.size 1) 32 && Nat.beq (q.1.size 2) 128 && Nat.beq (q.1.stride 0) 1 && Nat.beq (q.1.stride 1) 1
      && Nat.beq (q.1.stride 2) 1

/-- A row some group holds is written by some store. -/
theorem covered {L : List (View.Piece (Elt F) S2x2016x128 .f32)} (h : groups L = true) (y : S2x2016x128.Idx)
    (hy : (y 1).val % 36 < 32) : ∃ q ∈ L, y ∈ q.1.set := by
  have h0 : (y 0).val < 2 := (y 0).isLt
  have h1 : (y 1).val < 2016 := (y 1).isLt
  have h2 : (y 2).val < 128 := (y 2).isLt
  have hp := List.all_eq_true.1 h ⟨(y 0).val, h0⟩ (List.mem_finRange _)
  have ha := List.all_eq_true.1 hp ⟨(y 1).val / 36, by omega⟩ (List.mem_finRange _)
  obtain ⟨q, hq, hb⟩ := List.any_eq_true.1 ha
  simp only [Bool.and_eq_true, Nat.beq_eq_true_eq] at hb
  obtain ⟨⟨⟨⟨⟨⟨⟨⟨o0, o1⟩, o2⟩, s0⟩, s1⟩, s2⟩, t0⟩, t1⟩, t2⟩ := hb
  replace o0 := Nat.eq_of_beq_eq_true o0; replace o1 := Nat.eq_of_beq_eq_true o1; replace o2 := Nat.eq_of_beq_eq_true o2
  replace s0 := Nat.eq_of_beq_eq_true s0; replace s1 := Nat.eq_of_beq_eq_true s1; replace s2 := Nat.eq_of_beq_eq_true s2
  replace t0 := Nat.eq_of_beq_eq_true t0; replace t1 := Nat.eq_of_beq_eq_true t1; replace t2 := Nat.eq_of_beq_eq_true t2
  refine ⟨q, hq, ?_⟩
  have hin : ∀ a, q.1.stride a = 1 ∧ q.1.off a ≤ (y a).val ∧ (y a).val < q.1.off a + q.1.size a := by
    intro a
    match a with
    | ⟨0, _⟩ =>
      show q.1.stride 0 = 1 ∧ q.1.off 0 ≤ (y 0).val ∧ (y 0).val < q.1.off 0 + q.1.size 0
      rw [t0, o0, s0]; exact ⟨rfl, le_rfl, Nat.lt_succ_self _⟩
    | ⟨1, _⟩ =>
      show q.1.stride 1 = 1 ∧ q.1.off 1 ≤ (y 1).val ∧ (y 1).val < q.1.off 1 + q.1.size 1
      rw [t1, o1, s1]; show 1 = 1 ∧ 36 * ((y 1).val / 36) ≤ _ ∧ _ < 36 * ((y 1).val / 36) + 32; omega
    | ⟨2, _⟩ =>
      show q.1.stride 2 = 1 ∧ q.1.off 2 ≤ (y 2).val ∧ (y 2).val < q.1.off 2 + q.1.size 2
      rw [t2, o2, s2]; omega
  rw [← Rect.map_emb_univ, Finset.mem_map]
  refine ⟨fun a => ⟨(y a).val - q.1.off a, ?_⟩, Finset.mem_univ _, funext fun a => Fin.ext ?_⟩
  · have h := hin a
    show (y a).val - q.1.off a < q.1.size a
    omega
  · have h := hin a
    refine (Rect.emb_apply _ _ _).trans ?_
    show q.1.off a + q.1.stride a * ((y a).val - q.1.off a) = (y a).val
    rw [h.1]
    omega

/-- A load of 56 rows of one plane, 36 rows apart from row `k` on, reads what `scratch` says of those rows. -/
theorem loaded (sh : BitVec 32) (x0 : Vec F S1792x256 .i8) (x1 : Vec F S1x256 .f32) {L : List (View.Piece (Elt F) S2x2016x128 .f32)}
    (hL : View.PiecesOf (scratch sh x0 x1) L) (hg : groups L = true) (v : View sig .tc .vmem S2x2016x128 .f32) (p k : ℕ)
    (inb : ∀ a, (![p, 0, 0] : Fin 3 → ℕ) a + S1x2016x128.size a ≤ S2x2016x128.size a)
    (inbk : ∀ a, S56x128.size a = 0 ∨ (![k, 0] : Fin 2 → ℕ) a + (![36, 1] : Fin 2 → ℕ) a * (S56x128.size a - 1) < S2016x128.size a)
    (e0 : (![1, 2016, 128] : Fin 3 → ℕ) 0 = 1) (e1 : ∀ i : Fin 2, (![1, 2016, 128] : Fin 3 → ℕ) i.succ = (![2016, 128] : Fin 2 → ℕ) i)
    (hu : ∀ a, (Rect.unit (s := S2x2016x128) ![p, 0, 0] S1x2016x128.size inb).stride a = 1)
    (hR : (⟨![k, 0], S56x128.size, ![36, 1], inbk⟩ : LoadRect S2016x128).shape.numel
      = ((Rect.unit (s := S2x2016x128) ![p, 0, 0] S1x2016x128.size inb).withinL
          ((⟨![k, 0], S56x128.size, ![36, 1], inbk⟩ : LoadRect S2016x128).consLift ![1, 2016, 128] e0 e1) hu).shape.numel)
    (y : S56x128.Idx) (q : S2x2016x128.Idx) (hk : k < 32) (hq0 : (q 0).val = p) (hq1 : (q 1).val = 36 * (y 0).val + k)
    (hq2 : (q 2).val = (y 1).val) :
    LoadRect.valAlong hR (v.readCov L ((Rect.unit (s := S2x2016x128) ![p, 0, 0] S1x2016x128.size inb).withinL
      ((⟨![k, 0], S56x128.size, ![36, 1], inbk⟩ : LoadRect S2016x128).consLift ![1, 2016, 128] e0 e1) hu)) y = scratch sh x0 x1 q := by
  show v.readCov L _ (Shape.reshapeEquiv hR y) = _
  rw [View.readCov_eq_canon']
  have hx : Shape.reshapeEquiv hR y = Fin.cons ⟨0, Nat.one_pos⟩ y := Shape.reshapeEquiv_cons_one (d := S56x128.size) _ _
  have hi : ((Rect.unit (s := S2x2016x128) ![p, 0, 0] S1x2016x128.size inb).withinL
      ((⟨![k, 0], S56x128.size, ![36, 1], inbk⟩ : LoadRect S2016x128).consLift ![1, 2016, 128] e0 e1) hu).idx (Shape.reshapeEquiv hR y) = q := by
    rw [hx]
    funext a
    apply Fin.ext
    rw [LoadRect.idx_apply]
    match a with
    | ⟨0, _⟩ => exact hq0.symm
    | ⟨1, _⟩ =>
      show 0 + k + 36 * (y 0).val = (q 1).val
      omega
    | ⟨2, _⟩ =>
      show 0 + 0 + 1 * (y 1).val = (q 2).val
      omega
  show View.canon L _ = _
  rw [hi]
  exact View.canon_apply_of_pieces _ L hL.mem q (covered hg q (by rw [hq1]; omega))

/-! ## The block of weights -/

/-- The weights of one block, in the order the body writes them: row `112 k + 56 t + a` holds the weight of code row `32 a + k`, of
    the low nibble when `t = 0` and of the high one when `t = 1`. -/
def weights (x0 : Vec F S1792x256 .i8) (x1 : Vec F S1x256 .f32) : Vec F S3584x256 .bf16 := fun q =>
  have h0 : (q 0).val < 3584 := (q 0).isLt
  FloatOps.truncf .bf16 bitsLt_bf16_f32 (nib (if (q 0).val / 56 % 2 = 0 then 28#32 else 24#32)
    (x0 (ix2 ⟨(q 0).val % 56 * 32 + (q 0).val / 112, by omega⟩ (q 1))) (x1 (ix2 (0 : Fin 1) (q 1))))

/-- A weight of the block is the scratch's entry it was gathered from. -/
theorem weights_of_scratch (x0 : Vec F S1792x256 .i8) (x1 : Vec F S1x256 .f32) (sh : BitVec 32) (q : S3584x256.Idx) (r : S2x2016x128.Idx)
    (h : (if (q 0).val / 56 % 2 = 0 then 28#32 else 24#32) = sh) (h1 : (r 1).val = 36 * ((q 0).val % 56) + (q 0).val / 112)
    (h2 : (r 0).val * 128 + (r 2).val = (q 1).val) :
    FloatOps.truncf .bf16 bitsLt_bf16_f32 (scratch sh x0 x1 r) = weights x0 x1 q := by
  have h0 : (q 0).val < 3584 := (q 0).isLt
  subst h
  unfold scratch weights
  refine congrArg _ (congrArg₂ (nib _) (congrArg x0 (funext fun a => Fin.ext ?_)) (congrArg x1 (funext fun a => Fin.ext ?_)))
  · match a with
    | ⟨0, _⟩ =>
      show ((r 1).val / 36 * 32 + (r 1).val % 36) % 1792 = (q 0).val % 56 * 32 + (q 0).val / 112
      have hd : (q 0).val / 112 < 32 := by omega
      have hm : (q 0).val % 56 < 56 := Nat.mod_lt _ (by decide)
      rw [h1, show (36 * ((q 0).val % 56) + (q 0).val / 112) / 36 = (q 0).val % 56 by omega,
        show (36 * ((q 0).val % 56) + (q 0).val / 112) % 36 = (q 0).val / 112 by omega]
      omega
    | ⟨1, _⟩ => exact h2
  · match a with
    | ⟨0, _⟩ => rfl
    | ⟨1, _⟩ => exact h2

/-- Every store into the output block puts there what `weights` says: 56 rows of low nibbles, then 56 of high ones. -/
theorem written_agrees {x0 : Vec F S1792x256 .i8} {x1 : Vec F S1x256 .f32} {LA LB : List (View.Piece (Elt F) S2x2016x128 .f32)}
    (hA : View.PiecesOf (scratch 28#32 x0 x1) LA) (gA : groups LA = true) (hB : View.PiecesOf (scratch 24#32 x0 x1) LB) (gB : groups LB = true)
    (vA vB : View sig .tc .vmem S2x2016x128 .f32) (p k o c : ℕ)
    (inbo : ∀ a, (![o, c] : Fin 2 → ℕ) a + S112x128.size a ≤ S3584x256.size a)
    (inb : ∀ a, (![p, 0, 0] : Fin 3 → ℕ) a + S1x2016x128.size a ≤ S2x2016x128.size a)
    (inbk : ∀ a, S56x128.size a = 0 ∨ (![k, 0] : Fin 2 → ℕ) a + (![36, 1] : Fin 2 → ℕ) a * (S56x128.size a - 1) < S2016x128.size a)
    (e0 : (![1, 2016, 128] : Fin 3 → ℕ) 0 = 1) (e1 : ∀ i : Fin 2, (![1, 2016, 128] : Fin 3 → ℕ) i.succ = (![2016, 128] : Fin 2 → ℕ) i)
    (hu : ∀ a, (Rect.unit (s := S2x2016x128) ![p, 0, 0] S1x2016x128.size inb).stride a = 1)
    (hR : (⟨![k, 0], S56x128.size, ![36, 1], inbk⟩ : LoadRect S2016x128).shape.numel
      = ((Rect.unit (s := S2x2016x128) ![p, 0, 0] S1x2016x128.size inb).withinL
          ((⟨![k, 0], S56x128.size, ![36, 1], inbk⟩ : LoadRect S2016x128).consLift ![1, 2016, 128] e0 e1) hu).shape.numel)
    (hk : k < 32) (ho : o = 112 * k) (hc : c = p * 128)
    (y : (Rect.unit (s := S3584x256) ![o, c] S112x128.size inbo).shape.Idx) :
    k0_pay1
      (LoadRect.valAlong hR (vA.readCov LA ((Rect.unit (s := S2x2016x128) ![p, 0, 0] S1x2016x128.size inb).withinL
        ((⟨![k, 0], S56x128.size, ![36, 1], inbk⟩ : LoadRect S2016x128).consLift ![1, 2016, 128] e0 e1) hu)))
      (LoadRect.valAlong hR (vB.readCov LB ((Rect.unit (s := S2x2016x128) ![p, 0, 0] S1x2016x128.size inb).withinL
        ((⟨![k, 0], S56x128.size, ![36, 1], inbk⟩ : LoadRect S2016x128).consLift ![1, 2016, 128] e0 e1) hu))) y
      = weights x0 x1 ((Rect.unit (s := S3584x256) ![o, c] S112x128.size inbo).emb y) := by
  have bp : p + 1 ≤ 2 := inb 0
  have y0 : (y 0).val < 112 := (y 0).isLt
  have y1 : (y 1).val < 128 := (y 1).isLt
  have q0 : ((Rect.unit (s := S3584x256) ![o, c] S112x128.size inbo).emb y 0).val = o + 1 * (y 0).val := rfl
  have q1 : ((Rect.unit (s := S3584x256) ![o, c] S112x128.size inbo).emb y 1).val = c + 1 * (y 1).val := rfl
  have hd : (o + 1 * (y 0).val) / 112 = k := by omega
  by_cases h : (y 0).val < 56
  · have hm : (o + 1 * (y 0).val) % 56 = (y 0).val := by omega
    show FloatOps.truncf .bf16 _ (concatenate S112x128 0 [⟨S56x128, _⟩, ⟨S56x128, _⟩] _ y) = _
    rw [concatenate_pair_apply_left (t := S112x128) (s₁ := S56x128) (s₂ := S56x128) 0 _ _ _ y rfl (ix2 (⟨(y 0).val, h⟩ : Fin 56) (⟨(y 1).val, y1⟩ : Fin 128))
      (fun b => match b with | ⟨0, _⟩ => rfl | ⟨1, _⟩ => rfl)]
    rw [loaded 28#32 x0 x1 hA gA vA p k inb inbk e0 e1 hu hR _
      (ix3 (⟨p, by omega⟩ : Fin 2) (⟨36 * (y 0).val + k, by omega⟩ : Fin 2016) (⟨(y 1).val, y1⟩ : Fin 128)) hk rfl rfl rfl]
    refine weights_of_scratch x0 x1 28#32 _ _ ?_ ?_ ?_
    · rw [q0, if_pos (by omega)]
    · rw [q0, hd, hm]
    · rw [q1]; show p * 128 + (y 1).val = _; omega
  · have hm : (o + 1 * (y 0).val) % 56 = (y 0).val - 56 := by omega
    show FloatOps.truncf .bf16 _ (concatenate S112x128 0 [⟨S56x128, _⟩, ⟨S56x128, _⟩] _ y) = _
    rw [concatenate_pair_apply_right (t := S112x128) (s₁ := S56x128) (s₂ := S56x128) 0 _ _ _ y rfl rfl (ix2 (⟨(y 0).val - 56, by omega⟩ : Fin 56) (⟨(y 1).val, y1⟩ : Fin 128))
      (fun b hb => match b with | ⟨0, _⟩ => absurd rfl hb | ⟨1, _⟩ => rfl)
      (show (y 0).val - 56 + 56 = (y 0).val by omega)]
    rw [loaded 24#32 x0 x1 hB gB vB p k inb inbk e0 e1 hu hR _
      (ix3 (⟨p, by omega⟩ : Fin 2) (⟨36 * ((y 0).val - 56) + k, by omega⟩ : Fin 2016) (⟨(y 1).val, y1⟩ : Fin 128)) hk rfl rfl rfl]
    refine weights_of_scratch x0 x1 24#32 _ _ ?_ ?_ ?_
    · rw [q0, if_neg (by omega)]
    · rw [q0, hd, hm]
    · rw [q1]; show p * 128 + (y 1).val = _; omega

section Run
variable (c : Dev nD) (i : grid0.Coords) (arg1 : Memref sig .tc .vmem S1792x256 .i8) (harg1 : arg1.IsWhole)
  (arg2 : Memref sig .tc .vmem S1x256 .f32) (harg2 : arg2.IsWhole) (arg3 : Memref sig .tc .vmem S3584x256 .bf16) (harg3 : arg3.IsWhole)
  (arg4 : Memref sig .tc .vmem S2x2016x128 .f32) (harg4 : arg4.IsWhole) (arg5 : Memref sig .tc .vmem S2x2016x128 .f32) (harg5 : arg5.IsWhole)
  (x0 : Vec F S1792x256 .i8) (x1 : Vec F S1x256 .f32)

/-- Every store into the low scratch puts there the low weights. -/
theorem lo_pieces : View.PiecesOf (scratch 28#32 x0 x1) (kernelRun0_A c i arg1 harg1 arg2 harg2 arg3 harg3 arg4 harg4 arg5 harg5 x0 x1).2.1 := by
  iterate 112
    refine ⟨stored_agrees 28#32 harg1 harg2 x0 x1 _ _ _ _ (by decide) _ _ (by decide) _ (by decide) (by decide) (by decide), ?_⟩
  trivial

/-- Every store into the high scratch puts there the high weights. -/
theorem hi_pieces : View.PiecesOf (scratch 24#32 x0 x1) (kernelRun0_A c i arg1 harg1 arg2 harg2 arg3 harg3 arg4 harg4 arg5 harg5 x0 x1).2.2.1 := by
  iterate 112
    refine ⟨stored_agrees 24#32 harg1 harg2 x0 x1 _ _ _ _ (by decide) _ _ (by decide) _ (by decide) (by decide) (by decide), ?_⟩
  trivial

/-- The stores into the low scratch write every group of rows. -/
theorem lo_groups : groups (kernelRun0_A c i arg1 harg1 arg2 harg2 arg3 harg3 arg4 harg4 arg5 harg5 x0 x1).2.1 = true := by sl_kernel_rfl
/-- The stores into the high scratch write every group of rows. -/
theorem hi_groups : groups (kernelRun0_A c i arg1 harg1 arg2 harg2 arg3 harg3 arg4 harg4 arg5 harg5 x0 x1).2.2.1 = true := by sl_kernel_rfl

/-- Every store into the output block puts there the weights. -/
theorem out_pieces : View.PiecesOf (weights x0 x1) (kernelRun0_A c i arg1 harg1 arg2 harg2 arg3 harg3 arg4 harg4 arg5 harg5 x0 x1).1 := by
  have hA := lo_pieces c i arg1 harg1 arg2 harg2 arg3 harg3 arg4 harg4 arg5 harg5 x0 x1
  have gA := lo_groups c i arg1 harg1 arg2 harg2 arg3 harg3 arg4 harg4 arg5 harg5 x0 x1
  have hB := hi_pieces c i arg1 harg1 arg2 harg2 arg3 harg3 arg4 harg4 arg5 harg5 x0 x1
  have gB := hi_groups c i arg1 harg1 arg2 harg2 arg3 harg3 arg4 harg4 arg5 harg5 x0 x1
  iterate 64
    refine ⟨written_agrees hA gA hB gB _ _ _ _ _ _ (by decide) _ _ _ _ _ _ (by decide) (by decide) (by decide), ?_⟩
  trivial

/-- What the body leaves in the output block. -/
theorem out_eq : out0_A_2 c i arg1 harg1 arg2 harg2 arg3 harg3 arg4 harg4 arg5 harg5 x0 x1 = weights x0 x1 := by
  unfold out0_A_2
  rw [View.read_writes_junk_eq_canon]
  funext y
  exact View.canon_apply_of_pieces _ _ (out_pieces c i arg1 harg1 arg2 harg2 arg3 harg3 arg4 harg4 arg5 harg5 x0 x1).mem y
    (cover0_A_2 c i arg1 harg1 arg2 harg2 arg3 harg3 arg4 harg4 arg5 harg5 x0 x1 y)

end Run

end Cert.KernelIdeal.Decode

end
-- ==== Proof.DecodeArray.lean ====
/- What the decode call leaves in its array: every weight of the matrix. -/
module

public import proofs.«01_k».proof.Proof.DecodeBlock
public import Idealize.ShloMosaic.Lib.Pipeline.ValueKit

@[expose] public section

set_option maxRecDepth 16384

noncomputable section

namespace Cert.KernelIdeal.Decode

open Idealize.ShloMosaic Idealize.ShloMosaic.TcCoe Idealize.ShloMosaic.ValueIdx Cert.KernelIdeal.Gen

variable {F : FTy → Type} [FloatOps F]

/-- The whole weight matrix, rows in the order the decode call writes them. -/
def matrix (x0 : Vec F S1792x18944 .i8) (x1 : Vec F S1x18944 .f32) : Vec F S3584x18944 .bf16 := fun q =>
  have h0 : (q 0).val < 3584 := (q 0).isLt
  FloatOps.truncf .bf16 bitsLt_bf16_f32 (nib (if (q 0).val / 56 % 2 = 0 then 28#32 else 24#32)
    (x0 (ValueIdx.ix2 ⟨(q 0).val % 56 * 32 + (q 0).val / 112, by omega⟩ (q 1))) (x1 (ValueIdx.ix2 (0 : Fin 1) (q 1))))

variable (V : (c : Dev nD) → (b : Ref sig .tc) → Buf (Elt F) ((c : Thread nD τ).loc b))

/-- Point `t` reads block `t` of the codes, … -/
theorem index_codes : ∀ t : Fin cfg0.N, win0_0.index t = ![0, t.val] := by decide +kernel
/-- … block `t` of the scales, … -/
theorem index_scales : ∀ t : Fin cfg0.N, win0_1.index t = ![0, t.val] := by decide +kernel
/-- … and writes block `t` of the weights. -/
theorem index_weights : ∀ t : Fin cfg0.N, win0_2.index t = ![0, t.val] := by decide +kernel

/-- Where an entry of a block of codes lies in the array. -/
theorem emb_codes (t : Fin cfg0.N) (y : S1792x256.Idx) (a : Fin 2) :
    ((win0_0.blk t).view.emb y a).val = (![0, t.val] : Fin 2 → Nat) a * win0_0.size a + (y a).val := by
  rw [← index_codes t]; exact Pipeline.Window.rect_emb_val win0_0 t y a rfl

/-- Where an entry of a block of scales lies in the array. -/
theorem emb_scales (t : Fin cfg0.N) (y : S1x256.Idx) (a : Fin 2) :
    ((win0_1.blk t).view.emb y a).val = (![0, t.val] : Fin 2 → Nat) a * win0_1.size a + (y a).val := by
  rw [← index_scales t]; exact Pipeline.Window.rect_emb_val win0_1 t y a rfl

/-- Where an entry of a block of weights lies in the array. -/
theorem emb_weights (t : Fin cfg0.N) (y : S3584x256.Idx) (a : Fin 2) :
    ((win0_2.blk t).view.emb y a).val = (![0, t.val] : Fin 2 → Nat) a * win0_2.size a + (y a).val := by
  rw [← index_weights t]; exact Pipeline.Window.rect_emb_val win0_2 t y a rfl

/-- The block of codes a point reads, as entries of the array. -/
theorem codes_eq (c : Dev nD) (t : Fin cfg0.N) (y : S1792x256.Idx) (z : S1792x18944.Idx)
    (h0 : (z 0).val = (y 0).val) (h1 : (z 1).val = t.val * 256 + (y 1).val) :
    (iblk0 V c 0 t : Vec F S1792x256 .i8) y = (V c main_arg1 : Vec F S1792x18944 .i8) z := by
  show (V c main_arg1 : Vec F S1792x18944 .i8) ((win0_0.blk t).view.emb y) = _
  refine congrArg _ (funext fun a => Fin.ext ((emb_codes t y a).trans ?_))
  match a with
  | ⟨0, _⟩ => exact (show 0 * 1792 + (y 0).val = (z 0).val by omega)
  | ⟨1, _⟩ => exact (show t.val * 256 + (y 1).val = (z 1).val by omega)

/-- The block of scales a point reads, as entries of the array. -/
theorem scales_eq (c : Dev nD) (t : Fin cfg0.N) (y : S1x256.Idx) (z : S1x18944.Idx)
    (h0 : (z 0).val = (y 0).val) (h1 : (z 1).val = t.val * 256 + (y 1).val) :
    (iblk0 V c 1 t : Vec F S1x256 .f32) y = (V c main_v0 : Vec F S1x18944 .f32) z := by
  show (V c main_v0 : Vec F S1x18944 .f32) ((win0_1.blk t).view.emb y) = _
  refine congrArg _ (funext fun a => Fin.ext ((emb_scales t y a).trans ?_))
  match a with
  | ⟨0, _⟩ => exact (show 0 * 1 + (y 0).val = (z 0).val by omega)
  | ⟨1, _⟩ => exact (show t.val * 256 + (y 1).val = (z 1).val by omega)

/-- A block of weights sits in the matrix at the point's columns. -/
theorem weights_eq (x0 : Vec F S1792x256 .i8) (x1 : Vec F S1x256 .f32) (z0 : Vec F S1792x18944 .i8)
    (z1 : Vec F S1x18944 .f32) (n : Nat) (y : S3584x256.Idx) (z : S3584x18944.Idx)
    (h0 : (z 0).val = (y 0).val) (h1 : (z 1).val = n + (y 1).val)
    (e0 : ∀ (u : S1792x256.Idx) (v : S1792x18944.Idx), (v 0).val = (u 0).val → (v 1).val = n + (u 1).val → x0 u = z0 v)
    (e1 : ∀ (u : S1x256.Idx) (v : S1x18944.Idx), (v 0).val = (u 0).val → (v 1).val = n + (u 1).val → x1 u = z1 v) :
    weights x0 x1 y = matrix z0 z1 z := by
  unfold weights matrix
  refine congrArg _ ?_
  rw [e0 _ (ValueIdx.ix2 ⟨(z 0).val % 56 * 32 + (z 0).val / 112, by have h : (z 0).val < 3584 := (z 0).isLt; omega⟩ (z 1))
      (by show (z 0).val % 56 * 32 + (z 0).val / 112 = (y 0).val % 56 * 32 + (y 0).val / 112; rw [h0]) h1,
    e1 _ (ValueIdx.ix2 (0 : Fin 1) (z 1)) rfl h1]
  exact congrArg (fun n : Nat => nib (if n / 56 % 2 = 0 then 28#32 else 24#32) (z0 _) (z1 _)) h0.symm

/-- The array the decode call leaves: the whole matrix, of the codes and scales it was given. -/
theorem array_eq (c : Dev nD) : (dat0 V c).arrAt 2 cfg0.N = matrix (V c main_arg1) (V c main_v0) := by
  refine (dat0 V c).arrAt_eq_of_covers 2 _ (by decide +kernel) fun t hf y => ?_
  blk_simp
  rw [after0_2]
  unfold outsAt0
  rw [out_eq]
  refine weights_eq _ _ _ _ (t.val * 256) y _ ?_ ?_ (codes_eq V c t) (scales_eq V c t)
  · exact (emb_weights t y 0).trans (show 0 * 3584 + (y 0).val = (y 0).val by omega)
  · exact emb_weights t y 1

end Cert.KernelIdeal.Decode

end
-- ==== Proof.GemmBlock.lean ====
/- What one grid point of the product call computes. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Gemm

open Idealize.ShloMosaic Idealize.ShloMosaic.TcCoe Cert.KernelIdeal.Gen

section Values

variable {F : FTy → Type} [FloatOps F]

/-- The offsets of a whole buffer are zero. -/
theorem hz : (![0, 0] : Fin 2 → Nat) = fun _ => 0 := funext fun a => by fin_cases a <;> rfl

/-- A point that adds: it leaves what was there plus the product of its two blocks. -/
theorem out_B (c : Dev nD) (i : grid1.Coords) (arg2 : Memref sig .tc .vmem S3584x512 .bf16) (harg2 : arg2.IsWhole)
    (arg3 : Memref sig .tc .vmem S1024x512 .bf16) (harg3 : arg3.IsWhole) (arg4 : Memref sig .tc .vmem S3584x1024 .f32)
    (harg4 : arg4.IsWhole) (hc0 : ¬cond1_0 i) (x0 : Vec F S3584x512 .bf16) (x1 : Vec F S1024x512 .bf16)
    (xo : Vec F S3584x1024 .f32) :
    out1_B_2 c i arg2 harg2 arg3 harg3 arg4 harg4 hc0 x0 x1 xo = k1_pay2 xo x0 x1 := by
  unfold out1_B_2
  rw [View.read_writes_eq_canon _ _ _ (cover1_B_2 c i arg2 harg2 arg3 harg3 arg4 harg4 hc0 x0 x1 xo)]
  unfold kernelRun1_B
  dsimp only
  rw [View.canon_unit_zero hz]
  simp only [View.readAt_eq_ld, harg2.read_unread, harg3.read_unread, harg4.read_unread,
    View.ld_unit_zero (S := S3584x512) hz, View.ld_unit_zero (S := S1024x512) hz, View.ld_unit_zero (S := S3584x1024) hz]

/-- The first point of a run: it clears its buffer and adds. -/
theorem out_A (c : Dev nD) (i : grid1.Coords) (arg2 : Memref sig .tc .vmem S3584x512 .bf16) (harg2 : arg2.IsWhole)
    (arg3 : Memref sig .tc .vmem S1024x512 .bf16) (harg3 : arg3.IsWhole) (arg4 : Memref sig .tc .vmem S3584x1024 .f32)
    (harg4 : arg4.IsWhole) (hc0 : cond1_0 i) (x0 : Vec F S3584x512 .bf16) (x1 : Vec F S1024x512 .bf16) :
    out1_A_2 c i arg2 harg2 arg3 harg3 arg4 harg4 hc0 x0 x1 = k1_pay2 k1_pay1 x0 x1 := by
  unfold out1_A_2
  rw [View.read_writes_eq_canon _ _ _ (cover1_A_2 c i arg2 harg2 arg3 harg3 arg4 harg4 hc0 x0 x1)]
  unfold kernelRun1_A
  dsimp only
  sl_unfold_words
  rw [View.canon_cons_unit_zero (S := S3584x1024) hz, View.readCov_unit_zero (S := S3584x1024) _ hz]
  simp only [View.readAt_eq_ld, harg2.read_unread, harg3.read_unread,
    View.ld_unit_zero (S := S3584x512) hz, View.ld_unit_zero (S := S1024x512) hz]

end Values

/-- The product of a block of weights with a block of gradients, at an entry. -/
def dot (x0 : Vec Ideal S3584x512 .bf16) (x1 : Vec Ideal S1024x512 .bf16) (q : S3584x1024.Idx) : EReal :=
  ∑ k : Fin 512, (x0 (ix2 (q 0) k) : EReal) * (x1 (ix2 (q 1) k) : EReal)

/-- What the body adds and stores, at an entry. -/
theorem pay2_apply (v : Vec Ideal S3584x1024 .f32) (x0 : Vec Ideal S3584x512 .bf16) (x1 : Vec Ideal S1024x512 .bf16)
    (q : S3584x1024.Idx) : (k1_pay2 v x0 x1 q : EReal) = (v q : EReal) + dot x0 x1 q := by
  unfold k1_pay2 dot
  pointwise

/-- What the body clears with is zero. -/
theorem pay1_apply (q : S3584x1024.Idx) : ((k1_pay1 (F := Ideal) q : Ideal .f32) : EReal) = 0 := by
  unfold k1_pay1
  pointwise

end Cert.KernelIdeal.Gemm
-- ==== Proof.GemmArray.lean ====
/- What the product call leaves in its array: the weights times the gradient, summed over the whole contracted axis. -/
module

public import proofs.«01_k».proof.Proof.GemmBlock

@[expose] public section

set_option maxRecDepth 16384

noncomputable section

namespace Cert.KernelIdeal.Gemm

open Idealize.ShloMosaic Idealize.ShloMosaic.TcCoe Cert.KernelIdeal.Gen

/-- The product of the whole weight matrix with the whole gradient, both contracted along their second axis. -/
def product (w : Vec Ideal S3584x18944 .bf16) (g : Vec Ideal S12288x18944 .bf16) : Vec Ideal S3584x12288 .f32 := fun q =>
  (∑ o : Fin 18944, (w (ix2 (q 0) o) : EReal) * (g (ix2 (q 1) o) : EReal) : EReal)

variable (V : (c : Dev nD) → (b : Ref sig .tc) → Buf (Elt Ideal) ((c : Thread nD τ).loc b))

/-- Point `t` reads block `t % 37` of the weights, … -/
theorem index_weights : ∀ t : Fin cfg1.N, win1_0.index t = ![0, t.val % 37] := by decide +kernel
/-- … block `(t / 37, t % 37)` of the gradient, … -/
theorem index_grads : ∀ t : Fin cfg1.N, win1_1.index t = ![t.val / 37, t.val % 37] := by decide +kernel
/-- … and adds into block `t / 37` of the result. -/
theorem index_out : ∀ t : Fin cfg1.N, win1_2.index t = ![0, t.val / 37] := by decide +kernel

/-- Where an entry of a block of weights lies in the matrix. -/
theorem emb_weights (t : Fin cfg1.N) (y : S3584x512.Idx) (a : Fin 2) :
    ((win1_0.blk t).view.emb y a).val = (![0, t.val % 37] : Fin 2 → Nat) a * win1_0.size a + (y a).val := by
  rw [← index_weights t]; exact Pipeline.Window.rect_emb_val win1_0 t y a rfl

/-- Where an entry of a block of gradients lies in the array. -/
theorem emb_grads (t : Fin cfg1.N) (y : S1024x512.Idx) (a : Fin 2) :
    ((win1_1.blk t).view.emb y a).val = (![t.val / 37, t.val % 37] : Fin 2 → Nat) a * win1_1.size a + (y a).val := by
  rw [← index_grads t]; exact Pipeline.Window.rect_emb_val win1_1 t y a rfl

/-- Where an entry of a block of the result lies in the array. -/
theorem emb_out (t : Fin cfg1.N) (y : S3584x1024.Idx) (a : Fin 2) :
    ((win1_2.blk t).view.emb y a).val = (![0, t.val / 37] : Fin 2 → Nat) a * win1_2.size a + (y a).val := by
  rw [← index_out t]; exact Pipeline.Window.rect_emb_val win1_2 t y a rfl

/-- The block of weights a point reads, as entries of the matrix. -/
theorem weights_eq (c : Dev nD) (t : Fin cfg1.N) (y : S3584x512.Idx) (z : S3584x18944.Idx)
    (h0 : (z 0).val = (y 0).val) (h1 : (z 1).val = t.val % 37 * 512 + (y 1).val) :
    (iblk1 V c 0 t : Vec Ideal S3584x512 .bf16) y = (V c main_v1 : Vec Ideal S3584x18944 .bf16) z := by
  show (V c main_v1 : Vec Ideal S3584x18944 .bf16) ((win1_0.blk t).view.emb y) = _
  refine congrArg _ (funext fun a => Fin.ext ((emb_weights t y a).trans ?_))
  match a with
  | ⟨0, _⟩ => exact (show 0 * 3584 + (y 0).val = (z 0).val by omega)
  | ⟨1, _⟩ => exact (show t.val % 37 * 512 + (y 1).val = (z 1).val by omega)

/-- The block of gradients a point reads, as entries of the array. -/
theorem grads_eq (c : Dev nD) (t : Fin cfg1.N) (y : S1024x512.Idx) (z : S12288x18944.Idx)
    (h0 : (z 0).val = t.val / 37 * 1024 + (y 0).val) (h1 : (z 1).val = t.val % 37 * 512 + (y 1).val) :
    (iblk1 V c 1 t : Vec Ideal S1024x512 .bf16) y = (V c main_v2 : Vec Ideal S12288x18944 .bf16) z := by
  show (V c main_v2 : Vec Ideal S12288x18944 .bf16) ((win1_1.blk t).view.emb y) = _
  refine congrArg _ (funext fun a => Fin.ext ((emb_grads t y a).trans ?_))
  match a with
  | ⟨0, _⟩ => exact (show t.val / 37 * 1024 + (y 0).val = (z 0).val by omega)
  | ⟨1, _⟩ => exact (show t.val % 37 * 512 + (y 1).val = (z 1).val by omega)

/-- What the buffer holds when a run of 37 points ends: the sum of the products of the run. -/
theorem outs_eq (c : Dev nD) (t : Fin cfg1.N) (hr : t.val % 37 = 37 - 1) (q : S3584x1024.Idx) :
    ((outsAt1 V c t.val t.isLt q : Ideal .f32) : EReal) = ∑ s : Fin 37,
      dot (iblk1 V c 0 ⟨37 * (t.val / 37) + s.val, Pipeline.run_point_lt_of_flush t hr s⟩)
        (iblk1 V c 1 ⟨37 * (t.val / 37) + s.val, Pipeline.run_point_lt_of_flush t hr s⟩) q := by
  rw [Pipeline.eq_sum_fin_of_reset_step_apply_of_flush (M := EReal) (fun n h => outsAt1 V c n h) 37 (fun _ => 0)
    (fun t q => dot (iblk1 V c 0 t) (iblk1 V c 1 t) q)
    (fun t h q => by rw [outsAt1_A V c t h, out_A, pay2_apply, pay1_apply])
    (fun t h q => by rw [outsAt1_B V c t h, out_B, pay2_apply]) t hr q, zero_add]

/-- The sum of a run's products is one sum over the contracted axis. -/
theorem run_eq (c : Dev nD) (t : Fin cfg1.N) (hr : t.val % 37 = 37 - 1) (y : S3584x1024.Idx) (z : S3584x12288.Idx)
    (h0 : (z 0).val = (y 0).val) (h1 : (z 1).val = t.val / 37 * 1024 + (y 1).val) :
    ((outsAt1 V c t.val t.isLt y : Ideal .f32) : EReal) = product (V c main_v1) (V c main_v2) z := by
  rw [outs_eq V c t hr y]
  unfold dot product
  refine Fin.sum_mul_add_congr fun s k hl => ?_
  have hd : (37 * (t.val / 37) + s.val) / 37 = t.val / 37 := by have := s.isLt; omega
  have hm : (37 * (t.val / 37) + s.val) % 37 = s.val := by have := s.isLt; omega
  refine congrArg₂ (fun a b : EReal => a * b) (weights_eq V c _ _ _ h0 ?_) (grads_eq V c _ _ _ ?_ ?_)
  · exact (show s.val * 512 + k.val = (37 * (t.val / 37) + s.val) % 37 * 512 + k.val by rw [hm])
  · exact (show (z 1).val = (37 * (t.val / 37) + s.val) / 37 * 1024 + (y 1).val by rw [hd, h1])
  · exact (show s.val * 512 + k.val = (37 * (t.val / 37) + s.val) % 37 * 512 + k.val by rw [hm])

/-- The array the product call leaves. -/
theorem array_eq (c : Dev nD) : (dat1 V c).arrAt 2 cfg1.N = product (V c main_v1) (V c main_v2) := by
  refine (dat1 V c).arrAt_eq_of_covers 2 _ (by decide +kernel) fun t hf y => ?_
  blk_simp
  rw [after1_2]
  refine run_eq V c t ((flush1_2 t).mp hf) y _ ?_ ?_
  · exact (emb_out t y 0).trans (show 0 * 3584 + (y 0).val = (y 0).val by omega)
  · exact emb_out t y 1

end Cert.KernelIdeal.Gemm
-- ==== Proof.Run.lean ====
/- The run of the idealized program: what its result array holds when it ends, as a term of the arguments. -/
module

public import proofs.«01_k».proof.Proof.DecodeArray
public import proofs.«01_k».proof.Proof.GemmArray

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-- The result, of the three arguments: the decoded matrix times the gradient laid out by token. -/
def result (dy : Vec Ideal S12x1024x18944 .bf16) (codes : Vec Ideal S1792x18944 .i8) (s : Vec Ideal S18944 .f32) :
    Vec Ideal S3584x12288 .f32 :=
  Gemm.product (Decode.matrix codes (shapeCast S1x18944 s shapeCasts_S18944_S1x18944))
    (shapeCast S12288x18944 dy shapeCasts_S12x1024x18944_S12288x18944)

variable (m : (ℓ : Loc nD τ sig) → Buf (Elt Ideal) ℓ) (ρ : Dev nD → PrngReg)

/-- The scales as the decode call finds them. -/
theorem V1_scales (c : Dev nD) : V1 m ρ c main_v0
    = shapeCast S1x18944 (m ((c : Thread nD τ).loc main_arg2)) shapeCasts_S18944_S1x18944 := by
  show StableHlo.after hostOps0 (W0 m ρ c) (Proc.devRef .tc main_v0) = _
  after_results
  rfl

/-- The codes as the decode call finds them. -/
theorem V1_codes (c : Dev nD) : V1 m ρ c main_arg1 = m ((c : Thread nD τ).loc main_arg1) :=
  W1_args m ρ c main_arg1 (by decide)

/-- The weights as the product call finds them. -/
theorem V3_weights (c : Dev nD) : V3 m ρ c main_v1 = Decode.matrix (m ((c : Thread nD τ).loc main_arg1))
    (shapeCast S1x18944 (m ((c : Thread nD τ).loc main_arg2)) shapeCasts_S18944_S1x18944) :=
  (W3_of m ρ c main_v1 (by decide)).trans ((W2_arr m ρ c 2).trans
    ((Decode.array_eq (V1 m ρ) c).trans (congrArg₂ Decode.matrix (V1_codes m ρ c) (V1_scales m ρ c))))

/-- The gradient as the product call finds it. -/
theorem V3_grads (c : Dev nD) : V3 m ρ c main_v2
    = shapeCast S12288x18944 (m ((c : Thread nD τ).loc main_arg0)) shapeCasts_S12x1024x18944_S12288x18944 := by
  show StableHlo.after hostOps1 (W2 m ρ c) (Proc.devRef .tc main_v2) = _
  rw [← W2_args m ρ c main_arg0 (by decide)]
  after_results
  rfl

/-- The result array when the program ends. -/
theorem W4_result (c : Dev nD) : W4 m ρ c (Proc.devRef .tc main_v3) = result (m ((c : Thread nD τ).loc main_arg0))
    (m ((c : Thread nD τ).loc main_arg1)) (m ((c : Thread nD τ).loc main_arg2)) :=
  (W4_arr m ρ c 2).trans ((Gemm.array_eq (V3 m ρ) c).trans
    (congrArg₂ Gemm.product (V3_weights m ρ c) (V3_grads m ρ c)))

set_option backward.isDefEq.respectTransparency.types false in
/-- The run of the program, with what the result array holds at the end: what the product call leaves. -/
theorem run : θ_run defs (onTc (τ := τ) (main (F := Ideal))) ⟨m, fun _ => 0, ρ⟩ (fun r => ∀ c : Dev nD,
      r.2.mem ((c.tc : Thread nD τ).loc main_v3) = result (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v3 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Value
-- ==== Proof.Reference.lean ====
/- What the reference computes: its run, and its result array as a term of its arguments. -/
module

public import proofs.«01_k».proof.Proof.Gen.ReferenceIdeal
public import Idealize.ShloMosaic.Lib.Claim
public import Idealize.ShloMosaic.Lib.StableHlo.RunHlo
public import Idealize.ShloMosaic.Lib.Pointwise

@[expose] public section

set_option maxRecDepth 16384

noncomputable section

namespace Cert.ReferenceIdeal.Value

open Idealize.ShloMosaic Idealize.ShloMosaic.TcCoe Idealize.SL.Sem Cert.ReferenceIdeal Cert.ReferenceIdeal.Gen

variable {F : FTy → Type} [FloatOps F]

/-- A 32-bit number spread over the codes' shape. -/
def splat (n : BitVec 32) : Vec F S1792x18944 .i32 :=
  broadcastInDim S1792x18944 ![] bcast_S_S1792x18944 (constantI S_ 32 n : Vec F S_ .i32)

/-- A four-bit number read as signed: from 8 on, less 16. -/
def signed (x : Vec F S1792x18944 .i32) : Vec F S1792x18944 .i32 :=
  select (cmpi .sge x (splat (F := F) 8#32)) (subi x (splat (F := F) 16#32)) x

/-- The codes as 32-bit numbers. -/
def wide (codes : Vec F S1792x18944 .i8) : Vec F S1792x18944 .i32 := extui 32 codes natLt_8_32

/-- The scales in bfloat16, one per column. -/
def scales (s : Vec F S18944 .f32) : Vec F S1792x18944 .bf16 :=
  broadcastInDim S1792x18944 ![0, 1] bcast_S1x18944_S1792x18944_0_1
    (broadcastInDim S1x18944 ![1] bcast_S18944_S1x18944_1 (truncf .bf16 s bitsLt_bf16_f32))

/-- The weights of the low four bits. -/
def low (codes : Vec F S1792x18944 .i8) (s : Vec F S18944 .f32) : Vec F S1792x18944 .bf16 :=
  mulf (sitofp .bf16 (signed (F := F) (andi (wide (F := F) codes) (splat (F := F) 15#32)))) (scales s)

/-- The weights of the high four bits. -/
def high (codes : Vec F S1792x18944 .i8) (s : Vec F S18944 .f32) : Vec F S1792x18944 .bf16 :=
  mulf (sitofp .bf16 (signed (F := F) (Host.shrsi (wide (F := F) codes) (splat (F := F) 4#32)))) (scales s)

/-- The gradient times one set of weights. -/
def times (dy : Vec F S12x1024x18944 .bf16) (w : Vec F S1792x18944 .bf16) : Vec F S12x1024x1792 .f32 :=
  Host.dotGeneral dot_S12x1024x18944_S1792x18944_S12x1024x1792_2_1_01_0_n_n none dy w

/-- The two products laid alternately, then rearranged. -/
def arrange (a b : Vec F S12x1024x1792 .f32) : Vec F S3584x12288 .f32 :=
  shapeCast S3584x12288 (transpose S64x56x12288 [2, 1, 0] (shapeCast S12288x56x64 (shapeCast S12x1024x3584
    (concatenate S12x1024x1792x2 3
      [⟨S12x1024x1792x1, broadcastInDim S12x1024x1792x1 ![0, 1, 2] bcast_S12x1024x1792_S12x1024x1792x1_0_1_2 a⟩,
       ⟨S12x1024x1792x1, broadcastInDim S12x1024x1792x1 ![0, 1, 2] bcast_S12x1024x1792_S12x1024x1792x1_0_1_2 b⟩]
      concatenates_S12x1024x1792x1_S12x1024x1792x1_S12x1024x1792x2_d3)
    shapeCasts_S12x1024x1792x2_S12x1024x3584) shapeCasts_S12x1024x3584_S12288x56x64)
    transposes_S12288x56x64_S64x56x12288_2_1_0) shapeCasts_S64x56x12288_S3584x12288

/-- The reference's result, of its three arguments. -/
def result (dy : Vec F S12x1024x18944 .bf16) (codes : Vec F S1792x18944 .i8) (s : Vec F S18944 .f32) :
    Vec F S3584x12288 .f32 :=
  arrange (times dy (low codes s)) (times dy (high codes s))

variable (m : (ℓ : Loc nD τ sig) → Buf (Elt F) ℓ) (ρ : Dev nD → PrngReg)

/-- The reference runs to its end, its result array holding `result` of its arguments, its arguments unchanged. -/
theorem run : θ_run (defs (F := F)) (onTc (τ := τ) (main (F := F))) ⟨m, fun _ => 0, ρ⟩ fun r => ∀ c : Dev nD,
      r.2.mem ((c : Thread nD τ).loc main_v32)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  hlo_run
  rfl

end Cert.ReferenceIdeal.Value
-- ==== Proof.ReferenceValue.lean ====
/- The reference's result at an entry, over the extended reals. -/
module

public import proofs.«01_k».proof.Proof.Reference
public import Idealize.ShloMosaic.Lib.Pipeline.Value

@[expose] public section

set_option maxRecDepth 16384

noncomputable section

namespace Cert.ReferenceIdeal.Value

open Idealize.ShloMosaic Idealize.ShloMosaic.TcCoe Cert.ReferenceIdeal Cert.ReferenceIdeal.Gen

/-- Where the arrangement takes the entry at row `p` from: the column of the products. -/
theorem column_lt {p : Nat} (h : p < 3584) : p % 56 * 32 + p / 112 < 1792 := by omega

/-- The entry of a product the arrangement puts at `q`: its batch, its position, its column. -/
def source (q : S3584x12288.Idx) : S12x1024x1792.Idx :=
  ix3 ⟨(q 1).val / 1024, by have h : (q 1).val < 12288 := (q 1).isLt; omega⟩ ⟨(q 1).val % 1024, by omega⟩
    ⟨(q 0).val % 56 * 32 + (q 0).val / 112, column_lt (q 0).isLt⟩

section Arrange

variable {F : FTy → Type} [FloatOps F]

/-- The alternate laying and the rearrangement, at an entry: the row says which product and which of its columns. -/
theorem arrange_apply (a b : Vec F S12x1024x1792 .f32) (q : S3584x12288.Idx) :
    arrange a b q = if (q 0).val / 56 % 2 = 0 then a (source q) else b (source q) := by
  have h0 : (q 0).val < 3584 := (q 0).isLt
  have h1 : (q 1).val < 12288 := (q 1).isLt
  unfold arrange
  rw [shapeCast_apply _ _ q (ix3 ⟨(q 0).val / 56, by omega⟩ ⟨(q 0).val % 56, by omega⟩ (q 1) : S64x56x12288.Idx) (by
    rw [Shape.rowMajor_val_three, Shape.rowMajor_val_two]
    show ((q 0).val / 56 * 56 + (q 0).val % 56) * 12288 + (q 1).val = (q 0).val * 12288 + (q 1).val
    omega)]
  rw [transpose_apply _ _ _ _ (ix3 (q 1) ⟨(q 0).val % 56, by omega⟩ ⟨(q 0).val / 56, by omega⟩ : S12288x56x64.Idx) (by
    intro b; match b with
    | ⟨0, _⟩ => rfl
    | ⟨1, _⟩ => rfl
    | ⟨2, _⟩ => rfl)]
  rw [shapeCast_apply _ _ _ (ix3 (source q 0) (source q 1) ⟨(q 0).val % 56 * 64 + (q 0).val / 56, by omega⟩ : S12x1024x3584.Idx) (by
    rw [Shape.rowMajor_val_three, Shape.rowMajor_val_three]
    show ((q 1).val / 1024 * 1024 + (q 1).val % 1024) * 3584 + ((q 0).val % 56 * 64 + (q 0).val / 56)
      = ((q 1).val * 56 + (q 0).val % 56) * 64 + (q 0).val / 56
    omega)]
  rw [shapeCast_apply _ _ _ (ix4 (source q 0) (source q 1) (source q 2) ⟨(q 0).val / 56 % 2, by omega⟩ : S12x1024x1792x2.Idx) (by
    rw [Shape.rowMajor_val_four, Shape.rowMajor_val_three]
    show (((q 1).val / 1024 * 1024 + (q 1).val % 1024) * 1792 + ((q 0).val % 56 * 32 + (q 0).val / 112)) * 2 + (q 0).val / 56 % 2
      = ((q 1).val / 1024 * 1024 + (q 1).val % 1024) * 3584 + ((q 0).val % 56 * 64 + (q 0).val / 56)
    omega)]
  split
  · rename_i hp
    rw [concatenate_pair_apply_left (t := S12x1024x1792x2) (s₁ := S12x1024x1792x1) (s₂ := S12x1024x1792x1) 3 _ _ _ _ rfl
      (ix4 (source q 0) (source q 1) (source q 2) (0 : Fin 1) : S12x1024x1792x1.Idx) (by
        intro b; match b with
        | ⟨0, _⟩ => rfl
        | ⟨1, _⟩ => rfl
        | ⟨2, _⟩ => rfl
        | ⟨3, _⟩ => exact hp.symm)]
    refine congrArg a (funext fun x => Fin.ext ?_)
    match x with
    | ⟨0, _⟩ => rfl
    | ⟨1, _⟩ => rfl
    | ⟨2, _⟩ => rfl
  · rename_i hp
    rw [concatenate_pair_apply_right (t := S12x1024x1792x2) (s₁ := S12x1024x1792x1) (s₂ := S12x1024x1792x1) 3 _ _ _ _ rfl rfl
      (ix4 (source q 0) (source q 1) (source q 2) (0 : Fin 1) : S12x1024x1792x1.Idx) (by
        intro b hb; match b with
        | ⟨0, _⟩ => rfl
        | ⟨1, _⟩ => rfl
        | ⟨2, _⟩ => rfl
        | ⟨3, _⟩ => exact absurd rfl hb) (by
        show 0 + 1 = (q 0).val / 56 % 2; omega)]
    refine congrArg b (funext fun x => Fin.ext ?_)
    match x with
    | ⟨0, _⟩ => rfl
    | ⟨1, _⟩ => rfl
    | ⟨2, _⟩ => rfl

end Arrange

/-- The product of the gradient with one set of weights, at an entry. -/
theorem times_apply (dy : Vec Ideal S12x1024x18944 .bf16) (w : Vec Ideal S1792x18944 .bf16) (q : S12x1024x1792.Idx) :
    (times dy w q : EReal) = ∑ o : Fin 18944, (dy (ix3 (q 0) (q 1) o) : EReal) * (w (ix2 (q 2) o) : EReal) := by
  unfold times
  pointwise

/-- A four-bit number read as signed, one word of it. -/
def signedWord (x : BitVec 32) : BitVec 32 := Scalar.select (Scalar.cmpi .sge x 8#32) (IntOp.subi x 16#32) x

/-- The scales, at an entry. -/
theorem scales_apply (s : Vec Ideal S18944 .f32) (q : S1792x18944.Idx) :
    scales s q = (truncf (F := Ideal) (φ := .f32) .bf16 s bitsLt_bf16_f32 : FVec Ideal S18944 .bf16) (ix1 (q 1)) := by
  unfold scales
  pointwise

/-- A low weight, at an entry: its four bits, signed, times the column's scale. -/
theorem low_apply (codes : Vec Ideal S1792x18944 .i8) (s : Vec Ideal S18944 .f32) (q : S1792x18944.Idx) :
    low codes s q = (FloatOps.mulf (F := Ideal) (φ := .bf16)
      (FloatOps.sitofp (F := Ideal) .bf16 (signedWord (IntOp.andi (BitVec.setWidth 32 (codes q)) 15#32)))
      (FloatOps.truncf (F := Ideal) .bf16 bitsLt_bf16_f32 (s (ix1 (q 1)))) : Ideal .bf16) := by
  unfold low
  show FloatOps.mulf (F := Ideal) (φ := .bf16) _ (scales s q) = _
  rw [scales_apply]
  rfl

/-- A high weight, at an entry: its four bits, signed, times the column's scale. -/
theorem high_apply (codes : Vec Ideal S1792x18944 .i8) (s : Vec Ideal S18944 .f32) (q : S1792x18944.Idx) :
    high codes s q = (FloatOps.mulf (F := Ideal) (φ := .bf16)
      (FloatOps.sitofp (F := Ideal) .bf16 (signedWord (IntOp.shrsi .host (BitVec.setWidth 32 (codes q)) 4#32)))
      (FloatOps.truncf (F := Ideal) .bf16 bitsLt_bf16_f32 (s (ix1 (q 1)))) : Ideal .bf16) := by
  unfold high
  show FloatOps.mulf (F := Ideal) (φ := .bf16) _ (scales s q) = _
  rw [scales_apply]
  rfl

end Cert.ReferenceIdeal.Value
-- ==== Proof.Equation.lean ====
/- The two programs compute the same array, over the extended reals. -/
module

public import proofs.«01_k».proof.Proof.Run
public import proofs.«01_k».proof.Proof.ReferenceValue

@[expose] public section

set_option maxRecDepth 16384

noncomputable section

namespace Cert.Proof.Equation

open Idealize.ShloMosaic Idealize.ShloMosaic.TcCoe Cert.KernelIdeal

/-- Shifting the low four bits to the top of the word and back is reading them as signed. -/
theorem low_word : ∀ b : BitVec 8, IntOp.shrsi .vector (IntOp.shli .vector (BitVec.setWidth 32 b) 28#32) 28#32
    = ReferenceIdeal.Value.signedWord (IntOp.andi (BitVec.setWidth 32 b) 15#32) := by decide +kernel

/-- Shifting the high four bits to the top of the word and back is reading them as signed. -/
theorem high_word : ∀ b : BitVec 8, IntOp.shrsi .vector (IntOp.shli .vector (BitVec.setWidth 32 b) 24#32) 28#32
    = ReferenceIdeal.Value.signedWord (IntOp.shrsi .host (BitVec.setWidth 32 b) 4#32) := by decide +kernel

/-- The scales as one row, at an entry. -/
theorem scale_apply (s : Vec Ideal S18944 .f32) (o : Fin 18944) :
    shapeCast S1x18944 s Gen.shapeCasts_S18944_S1x18944 (ValueIdx.ix2 (0 : Fin 1) o) = s (ix1 o) := by
  refine shapeCast_apply _ _ _ _ ?_
  rw [Shape.rowMajor_val_one, Shape.rowMajor_val_two]
  show o.val = 0 * 18944 + o.val
  omega

/-- The gradient laid out by token, at an entry. -/
theorem grad_apply (dy : Vec Ideal S12x1024x18944 .bf16) (q : S3584x12288.Idx) (o : Fin 18944) :
    shapeCast S12288x18944 dy Gen.shapeCasts_S12x1024x18944_S12288x18944 (ix2 (q 1) o)
      = dy (ix3 (ReferenceIdeal.Value.source q 0) (ReferenceIdeal.Value.source q 1) o) := by
  refine shapeCast_apply _ _ _ _ ?_
  rw [Shape.rowMajor_val_three, Shape.rowMajor_val_two]
  show ((q 1).val / 1024 * 1024 + (q 1).val % 1024) * 18944 + o.val = (q 1).val * 18944 + o.val
  omega

/-- A weight of the low four bits, decoded by the kernel, is the reference's. -/
theorem low_nib (b : BitVec 8) (x : Ideal .f32) :
    FloatOps.truncf (F := Ideal) .bf16 Gen.bitsLt_bf16_f32 (Decode.nib (F := Ideal) 28#32 b x)
      = FloatOps.mulf (F := Ideal) (φ := .bf16)
        (FloatOps.sitofp (F := Ideal) .bf16 (ReferenceIdeal.Value.signedWord (IntOp.andi (BitVec.setWidth 32 b) 15#32)))
        (FloatOps.truncf (F := Ideal) .bf16 Gen.bitsLt_bf16_f32 x) := by
  rw [← low_word]
  rfl

/-- A weight of the high four bits, decoded by the kernel, is the reference's. -/
theorem high_nib (b : BitVec 8) (x : Ideal .f32) :
    FloatOps.truncf (F := Ideal) .bf16 Gen.bitsLt_bf16_f32 (Decode.nib (F := Ideal) 24#32 b x)
      = FloatOps.mulf (F := Ideal) (φ := .bf16)
        (FloatOps.sitofp (F := Ideal) .bf16 (ReferenceIdeal.Value.signedWord (IntOp.shrsi .host (BitVec.setWidth 32 b) 4#32)))
        (FloatOps.truncf (F := Ideal) .bf16 Gen.bitsLt_bf16_f32 x) := by
  rw [← high_word]
  rfl

/-- The decoded matrix at an entry, its row's parity decided. -/
theorem matrix_apply {F : FTy → Type} [FloatOps F] (codes : Vec F S1792x18944 .i8) (x1 : Vec F S1x18944 .f32)
    (p : Fin 3584) (o : Fin 18944) (r : Fin 1792) (hr : r.val = p.val % 56 * 32 + p.val / 112) (sh : BitVec 32)
    (hs : (if p.val / 56 % 2 = 0 then 28#32 else 24#32) = sh) (x : F .f32) (hx : x1 (ValueIdx.ix2 (0 : Fin 1) o) = x) :
    Decode.matrix codes x1 (ix2 p o)
      = FloatOps.truncf .bf16 Gen.bitsLt_bf16_f32 (Decode.nib sh (codes (ix2 r o)) x) := by
  subst hs hx
  obtain ⟨r, h⟩ := r
  dsimp only at hr
  subst hr
  unfold Decode.matrix
  refine congrArg _ (congrArg₂ (Decode.nib _) (congrArg codes (funext fun a => ?_)) rfl)
  match a with
  | ⟨0, _⟩ => rfl
  | ⟨1, _⟩ => rfl

/-- A row of the decoded matrix is a row of the reference's low weights … -/
theorem low_weight (codes : Vec Ideal S1792x18944 .i8) (s : Vec Ideal S18944 .f32) (p : Fin 3584) (o : Fin 18944) (r : Fin 1792)
    (hr : r.val = p.val % 56 * 32 + p.val / 112) (h : p.val / 56 % 2 = 0) :
    Decode.matrix codes (shapeCast S1x18944 s Gen.shapeCasts_S18944_S1x18944) (ix2 p o)
      = ReferenceIdeal.Value.low codes s (ix2 r o) :=
  (matrix_apply codes _ p o r hr 28#32 (if_pos h) (s (ix1 o)) (scale_apply s o)).trans
    ((low_nib _ _).trans (ReferenceIdeal.Value.low_apply codes s _).symm)

/-- … or of its high ones. -/
theorem high_weight (codes : Vec Ideal S1792x18944 .i8) (s : Vec Ideal S18944 .f32) (p : Fin 3584) (o : Fin 18944) (r : Fin 1792)
    (hr : r.val = p.val % 56 * 32 + p.val / 112) (h : ¬p.val / 56 % 2 = 0) :
    Decode.matrix codes (shapeCast S1x18944 s Gen.shapeCasts_S18944_S1x18944) (ix2 p o)
      = ReferenceIdeal.Value.high codes s (ix2 r o) :=
  (matrix_apply codes _ p o r hr 24#32 (if_neg h) (s (ix1 o)) (scale_apply s o)).trans
    ((high_nib _ _).trans (ReferenceIdeal.Value.high_apply codes s _).symm)

/-- The kernel's result is the reference's. -/
theorem result_eq (dy : Vec Ideal S12x1024x18944 .bf16) (codes : Vec Ideal S1792x18944 .i8) (s : Vec Ideal S18944 .f32) :
    KernelIdeal.Value.result dy codes s = ReferenceIdeal.Value.result dy codes s := by
  funext q
  unfold ReferenceIdeal.Value.result KernelIdeal.Value.result
  rw [ReferenceIdeal.Value.arrange_apply]
  unfold Gemm.product
  split
  · rename_i h
    refine Eq.trans ?_ (ReferenceIdeal.Value.times_apply dy _ _).symm
    refine Finset.sum_congr rfl fun o _ => (mul_comm _ _).trans (congrArg₂ (fun a b : EReal => a * b) (grad_apply dy q o) ?_)
    exact low_weight codes s (q 0) o _ rfl h
  · rename_i h
    refine Eq.trans ?_ (ReferenceIdeal.Value.times_apply dy _ _).symm
    refine Finset.sum_congr rfl fun o _ => (mul_comm _ _).trans (congrArg₂ (fun a b : EReal => a * b) (grad_apply dy q o) ?_)
    exact high_weight codes s (q 0) o _ rfl h

end Cert.Proof.Equation
-- ==== Proof.lean ====
/- The five claims, assembled: each program runs to its end with its arguments unchanged; the idealization rewrote nothing;
   and over the extended reals the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Reference
public import proofs.«01_k».proof.Proof.Equation
public import Idealize.ShloMosaic.Lib.Claim
public import Idealize.ShloMosaic.Lib.StableHlo.RunHlo
public import Idealize.ShloMosaic.Adequacy
public import Idealize.ShloMosaic.Init

@[expose] public section

noncomputable section

namespace Cert.Proof

open Idealize.ShloMosaic Idealize.SL.Sem Cert.Kernel

/-- The reference runs to its end, its arguments unchanged; it declares no semaphore, so every counter is at zero. -/
theorem reference_frame : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run m ρ)

/-- The kernel's result is the reference's, over the extended reals. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Value.run m g, (θ_run _ _ _).mono (fun r h c => ?_) (Cert.ReferenceIdeal.Value.run m' g')⟩
  obtain ⟨h, hargs⟩ := h c
  obtain ⟨h0, h1, h2⟩ := hagree c
  refine ⟨h.trans ?_, hargs⟩
  rw [h0, h1, h2]
  exact (Equation.result_eq _ _ _).symm

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
